-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S16 : Shape := ⟨1, ![16]⟩
abbrev S1 : Shape := ⟨1, ![1]⟩
abbrev S_ : Shape := ⟨0, ![]⟩
abbrev S512x1024 : Shape := ⟨2, ![512, 1024]⟩

abbrev nBuf : Space → Nat
  | .hbm => 3
  | .vmem => 1
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192x1024, .f32⟩
  | .local _ .vmem, ⟨0, _⟩ => ⟨S8192x1024, .f32⟩
  | _, _ => ⟨S4x8192x1024, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Copy.lean ====
/-
  One transfer on one semaphore, and a run of equal steps over a list.

  The kernel is a list of transfers between slices, each on a semaphore of its own. Two rules about ONE transfer are
  proved here, for any two slices of equal shape: starting it (`start`) and waiting for it (`finish`). A third rule
  (`each`) says that what one step does for its own item, the list of steps does for all its items. Nothing here
  mentions the kernel's sizes.
-/
module

public import Idealize.ShloMosaic.Lib.Transfers
public import Idealize.ShloMosaic.Lib.Memref
public import Idealize.ShloMosaic.Lib.Pipeline.Kit
public import Idealize.ShloMosaic.Lib.Pipeline.BigSepL
public import Idealize.ShloMosaic.Lib.Tactic

@[expose] public section

noncomputable section

namespace Cert.Proof.Copy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The resource algebra: the launch's rounds, beside the counters which transfers take their tokens from. -/
abbrev UU (sig : RefSig) (nD : Nat) (τ : Topo) : Type := UR sig nD τ × Counters

variable {nD : Nat} {τ : Topo} {sig : RefSig} {Val : EltTy → Type} {Λ : Labels} {defs : Defs nD τ sig Val Λ}

local notation "𝕄" => MT nD τ sig Unit Val ℕ (UU sig nD τ) ℕ

/-- A transfer under way on semaphore `sm`: waiting for it delivers the destination holding `X` and the source, still
    holding `X`. -/
def moving (c : Dev nD) {sp sp' : Space} {s : Shape} {e : EltTy} (src : Memref sig .tc sp s e) (dst : Memref sig .tc sp' s e)
    (sm : DmaSem sig) (X : s.Idx → Val e) : sProp 𝕄 :=
  Transfers.Flight countersEmb (c.tc : Thread nD τ) (.dma sm) () dst.view.dmaCredit
    iprop(owns (c.tc : Thread nD τ) dst fullShare X ∗ owns (c.tc : Thread nD τ) src fullShare X)

/-- STARTING a transfer: from a source holding `X`, a destination holding anything and the semaphore at zero, the
    program goes on with the transfer under way. -/
theorem start (c : Dev nD) {sp sp' : Space} {s : Shape} {e : EltTy} (src : Memref sig .tc sp s e) (dst : Memref sig .tc sp' s e)
    (sm : DmaSem sig) (hs : 0 < s.numel) (hsrc : src.view.WordExact) (hdst : dst.view.WordExact)
    (hsem : DmaTarget.Typed (nD := nD) (τ := τ) (p := .tc) sp (.dma sm) (.here dst)) (X Y : s.Idx → Val e) (Q : PUnit → sProp 𝕄) :
    iprop(owns (c.tc : Thread nD τ) src fullShare X ∗ owns (c.tc : Thread nD τ) dst fullShare Y ∗ semVal ((c.tc : Thread nD τ), .dma sm) 0
        ∗ (moving c src dst sm X -∗ Q ⟨⟩))
      ⊢ wp frame (wpE defs Variants.none (c.tc : Thread nD τ) none) Set.univ
          (Prog.lift (.enqueueDma src (.here dst) (.dma sm) hsrc hdst hsem)) Q := by
  unfold owns moving Prog.lift
  iintro ⟨⟨%fs, %hfs, Hs⟩, ⟨%fd, -, Hd⟩, Hv, Hk⟩
  iapply (Transfers.wp_dmaLocal countersEmb Variants.none (c.tc : Thread nD τ) none () dst.view.dmaCredit rfl
    (View.dmaCredit_pos _ hs) (Finset.Subset.refl _)) $$ [Hs Hd Hv]
  · isplitl [Hs]; · iexact Hs
    isplitl [Hd] <;> iassumption
  iintro Hf
  rw [wp_ret]; imodintro
  iapply Hk
  iapply (Transfers.Flight_mono countersEmb (c.tc : Thread nD τ) ?_) $$ Hf
  unfold owns
  iintro ⟨Hd, Hs⟩
  isplitl [Hd]
  · iexists _; isplitr; swap; · iexact Hd
    ipureintro; rw [View.read_write_univ]; exact hfs
  · iexists _; isplitr; swap; · iexact Hs
    ipureintro; exact hfs

/-- WAITING for a transfer: it delivers both ends and brings the semaphore back to zero. -/
theorem finish (c : Dev nD) {sp sp' : Space} {s : Shape} {e : EltTy} (src : Memref sig .tc sp s e) (dst : Memref sig .tc sp' s e)
    (sm : DmaSem sig) (hsrc : src.view.WordExact) (hdst : dst.view.WordExact) (X : s.Idx → Val e) (W : Waits sig Unit) (Q : PUnit → sProp 𝕄) :
    iprop(moving c src dst sm X ∗ owes (c.tc : Thread nD τ) (0 : CellTallies nD τ sig Unit) W
        ∗ (iprop(owns (c.tc : Thread nD τ) dst fullShare X ∗ owns (c.tc : Thread nD τ) src fullShare X
            ∗ semVal ((c.tc : Thread nD τ), .dma sm) 0 ∗ ∃ W, owes (c.tc : Thread nD τ) (0 : CellTallies nD τ sig Unit) W) -∗ Q ⟨⟩))
      ⊢ wp frame (wpE defs Variants.none (c.tc : Thread nD τ) none) Set.univ (Prog.lift (.waitDma2 sm src dst hsrc hdst)) Q := by
  unfold moving Prog.lift
  iintro ⟨Hf, HO, Hk⟩
  iapply (Transfers.wp_waitLocal countersEmb Variants.none (c.tc : Thread nD τ) none () rfl) $$ [Hf HO]
  · isplitl [Hf] <;> iassumption
  iintro ⟨⟨Hd, Hs⟩, Hv, HO⟩
  rw [wp_ret]; imodintro
  iapply Hk
  isplitl [Hd]; · iexact Hd
  isplitl [Hs]; · iexact Hs
  isplitl [Hv]; · iexact Hv
  iexists _; iexact HO

/-- The steps `f i` for the items `i` of a list, in order, then `k`. -/
def run {I : Type} (f : I → Prog (TpuEff nD τ sig Val Λ .tc) PUnit) (k : Prog (TpuEff nD τ sig Val Λ .tc) PUnit) :
    List I → Prog (TpuEff nD τ sig Val Λ .tc) PUnit
  | [] => k
  | i :: l => f i >>= fun _ => run f k l

/-- A RUN OF STEPS: if each step turns its own item's `P i` into `P' i` for a core that owes nothing, the list of steps
    turns all the `P i` into all the `P' i`. -/
theorem each {I : Type} (c : Dev nD) (f : I → Prog (TpuEff nD τ sig Val Λ .tc) PUnit) (k : Prog (TpuEff nD τ sig Val Λ .tc) PUnit)
    (P P' : I → sProp 𝕄)
    (h : ∀ i W (Q : PUnit → sProp 𝕄), iprop(P i ∗ owes (c.tc : Thread nD τ) (0 : CellTallies nD τ sig Unit) W
        ∗ (iprop(P' i ∗ ∃ W, owes (c.tc : Thread nD τ) (0 : CellTallies nD τ sig Unit) W) -∗ Q ⟨⟩))
      ⊢ wp frame (wpE defs Variants.none (c.tc : Thread nD τ) none) Set.univ (f i) Q) (Q : PUnit → sProp 𝕄) :
    ∀ (l : List I) (W : Waits sig Unit), iprop(bigSepL l P ∗ owes (c.tc : Thread nD τ) (0 : CellTallies nD τ sig Unit) W
        ∗ (iprop(bigSepL l P' ∗ ∃ W, owes (c.tc : Thread nD τ) (0 : CellTallies nD τ sig Unit) W)
            -∗ wp frame (wpE defs Variants.none (c.tc : Thread nD τ) none) Set.univ k Q))
      ⊢ wp frame (wpE defs Variants.none (c.tc : Thread nD τ) none) Set.univ (run f k l) Q
  | [], W => by
    unfold run
    iintro ⟨-, HO, Hk⟩
    iapply Hk
    isplitr
    · rw [bigSepL_nil]; iempintro
    · iexists W; iexact HO
  | i :: l, W => by
    rw [bigSepL_cons', bigSepL_cons']
    unfold run
    rw [wp_bind]
    iintro ⟨⟨Hi, Hl⟩, HO, Hk⟩
    iapply (h i W) $$ [Hi HO Hl Hk]
    isplitl [Hi]; · iexact Hi
    isplitl [HO]; · iexact HO
    iintro ⟨Hi, %W', HO⟩
    iapply (each c f k P P' h Q l W') $$ [Hi HO Hl Hk]
    isplitl [Hl]; · iexact Hl
    isplitl [HO]; · iexact HO
    iintro ⟨Hl, HO⟩
    iapply Hk
    isplitl [Hi Hl]
    · isplitl [Hi] <;> iassumption
    iexact HO

end Cert.Proof.Copy

end
-- ==== Proof.Chunks.lean ====
/-
  The kernel's body as a program over any three tables of 8192 rows: what it copies and what it leaves.

  The source table is cut into sixteen blocks of 512 rows. All sixteen blocks are set moving from the source to the
  working table; then, block by block, the arrival is awaited and the block is set moving on to the result; last, the
  sixteen arrivals in the result are awaited. `copyAll` is that program, `copyAll_runs` what it does: the result and
  the working table end holding exactly the source's values, the source is as it was, and every semaphore is back at
  zero. The argument is about ONE block, at each of the three stages; the blocks are disjoint and make up the table.
-/
module

public import proofs.«01_k».proof.Proof.Copy

@[expose] public section

noncomputable section

namespace Cert.Proof.Copy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A table: 8192 rows of 1024. -/
abbrev Tab : Shape := ⟨2, ![8192, 1024]⟩
/-- A block: 512 rows of 1024. -/
abbrev Blk : Shape := ⟨2, ![512, 1024]⟩

/-- Block `i`'s rows lie in the table. -/
theorem rows_inb (i : Fin 16) : ∀ a, (![512 * i.val, 0] : Fin 2 → Nat) a + Blk.size a ≤ Tab.size a := by
  intro a
  have := i.isLt
  fin_cases a
  · show 512 * i.val + 512 ≤ 8192; omega
  · show 0 + 1024 ≤ 1024; omega

/-- Block `i`: rows `512 i … 512 i + 511`. -/
abbrev rows (i : Fin 16) : Rect Tab := Rect.unit (s := Tab) ![512 * i.val, 0] Blk.size (rows_inb i)

/-- Different blocks share no element. -/
theorem rows_disjoint (i j : Fin 16) (h : i ≠ j) : Disjoint (rows i).set (rows j).set := by
  refine Rect.unit_disjoint (s := Tab) 0 ?_
  show 512 * i.val + 512 ≤ 512 * j.val ∨ 512 * j.val + 512 ≤ 512 * i.val
  have : i.val ≠ j.val := fun e => h (Fin.ext e)
  omega

/-- The sixteen blocks make up the table. -/
theorem rows_cover : (Finset.univ : Finset (Fin 16)).biUnion (fun i => (rows i).set) = Finset.univ := by
  refine Finset.eq_univ_iff_forall.mpr fun x => ?_
  have h0 : (x 0).val < 8192 := (x 0).isLt
  have h1 : (x 1).val < 1024 := (x 1).isLt
  refine Finset.mem_biUnion.mpr ⟨⟨(x 0).val / 512, by omega⟩, Finset.mem_univ _, Rect.mem_set_unit.mpr fun a => ?_⟩
  fin_cases a
  · show 512 * ((x 0).val / 512) ≤ (x 0).val ∧ (x 0).val < 512 * ((x 0).val / 512) + 512
    omega
  · show 0 ≤ (x 1).val ∧ (x 1).val < 0 + 1024
    omega

/-- The blocks in order. -/
abbrev blocks : List (Fin 16) := [0, 1, 2, 3, 4, 5, 6, 7, 8, 9, 10, 11, 12, 13, 14, 15]

variable {nD : Nat} {τ : Topo} {sig : RefSig} {Val : EltTy → Type} {Λ : Labels} {defs : Defs nD τ sig Val Λ}

local notation "𝕄" => MT nD τ sig Unit Val ℕ (UU sig nD τ) ℕ

/-- Block `i` of a table. -/
abbrev block {sp : Space} (m : Memref sig .tc sp Tab .f32) (i : Fin 16) : Memref sig .tc sp Blk .f32 :=
  m.slice (rows i) (fun _ => rfl)

section Program

variable (a0 a1 : Memref sig .tc .hbm Tab .f32) (a2 : Memref sig .tc .vmem Tab .f32) (sIn sOut : Fin 16 → DmaSem sig)

/-- Set block `i` moving from the source to the working table. -/
def fetch (i : Fin 16) : Prog (TpuEff nD τ sig Val Λ .tc) PUnit :=
  Prog.lift (.enqueueDma (block a0 i) (.here (block a2 i)) (.dma (sIn i)) (View.wordExact_bits rfl) (View.wordExact_bits rfl) ⟨Or.inl rfl, trivial⟩)

/-- Await block `i` in the working table and set it moving on to the result. -/
def turn (i : Fin 16) : Prog (TpuEff nD τ sig Val Λ .tc) PUnit :=
  Prog.lift (.waitDma2 (sIn i) (block a0 i) (block a2 i) (View.wordExact_bits rfl) (View.wordExact_bits rfl)) >>= fun _ =>
    Prog.lift (.enqueueDma (block a2 i) (.here (block a1 i)) (.dma (sOut i)) (View.wordExact_bits rfl) (View.wordExact_bits rfl) ⟨Or.inl rfl, trivial⟩)

/-- Await block `i` in the result. -/
def drain (i : Fin 16) : Prog (TpuEff nD τ sig Val Λ .tc) PUnit :=
  Prog.lift (.waitDma2 (sOut i) (block a2 i) (block a1 i) (View.wordExact_bits rfl) (View.wordExact_bits rfl))

/-- The kernel's body. -/
def copyAll : Prog (TpuEff nD τ sig Val Λ .tc) PUnit :=
  run (fetch a0 a2 sIn) (run (turn a0 a1 a2 sIn sOut) (run (drain a1 a2 sOut) (pure ⟨⟩) blocks) blocks) blocks

end Program

section Runs

variable (c : Dev nD) (a0 a1 : Memref sig .tc .hbm Tab .f32) (a2 : Memref sig .tc .vmem Tab .f32) (sIn sOut : Fin 16 → DmaSem sig)

/-- A table's block `i` held whole, holding block `i` of `X`. -/
abbrev part {sp : Space} (m : Memref sig .tc sp Tab .f32) (X : Tab.Idx → Val .f32) (i : Fin 16) : sProp 𝕄 :=
  owns (c.tc : Thread nD τ) (block m i) fullShare (fun j => X ((rows i).emb j))

/-- A semaphore at zero. -/
abbrev zero (s : DmaSem sig) : sProp 𝕄 := semVal ((c.tc : Thread nD τ), .dma s) 0

variable (X Y Z : Tab.Idx → Val .f32)

/-- Block `i` before anything moves, -/
abbrev atRest (i : Fin 16) : sProp 𝕄 :=
  iprop(part c a0 X i ∗ part c a1 Y i ∗ part c a2 Z i ∗ zero c (sIn i) ∗ zero c (sOut i))
/-- on its way to the working table, -/
abbrev coming (i : Fin 16) : sProp 𝕄 :=
  iprop(moving c (block a0 i) (block a2 i) (sIn i) (fun j => X ((rows i).emb j)) ∗ part c a1 Y i ∗ zero c (sOut i))
/-- on its way to the result, -/
abbrev going (i : Fin 16) : sProp 𝕄 :=
  iprop(moving c (block a2 i) (block a1 i) (sOut i) (fun j => X ((rows i).emb j)) ∗ part c a0 X i ∗ zero c (sIn i))

theorem blk_pos : 0 < Blk.numel := by decide

/-- The first stage, one block. -/
theorem fetch_runs (i : Fin 16) (W : Waits sig Unit) (Q : PUnit → sProp 𝕄) :
    iprop(atRest c a0 a1 a2 sIn sOut X Y Z i ∗ owes (c.tc : Thread nD τ) (0 : CellTallies nD τ sig Unit) W
        ∗ (iprop(coming c a0 a1 a2 sIn sOut X Y i ∗ ∃ W, owes (c.tc : Thread nD τ) (0 : CellTallies nD τ sig Unit) W) -∗ Q ⟨⟩))
      ⊢ wp frame (wpE defs Variants.none (c.tc : Thread nD τ) none) Set.univ (fetch a0 a2 sIn i) Q := by
  unfold fetch
  iintro ⟨⟨H0, H1, H2, Hi, Ho⟩, HO, Hk⟩
  iapply (start c (block a0 i) (block a2 i) (sIn i) blk_pos _ _ _ _ _ Q)
  isplitl [H0]; · iexact H0
  isplitl [H2]; · iexact H2
  isplitl [Hi]; · iexact Hi
  iintro Hm
  iapply Hk
  isplitl [Hm H1 Ho]
  · isplitl [Hm]; · iexact Hm
    isplitl [H1] <;> iassumption
  iexists W; iexact HO

/-- The second stage, one block. -/
theorem turn_runs (i : Fin 16) (W : Waits sig Unit) (Q : PUnit → sProp 𝕄) :
    iprop(coming c a0 a1 a2 sIn sOut X Y i ∗ owes (c.tc : Thread nD τ) (0 : CellTallies nD τ sig Unit) W
        ∗ (iprop(going c a0 a1 a2 sIn sOut X i ∗ ∃ W, owes (c.tc : Thread nD τ) (0 : CellTallies nD τ sig Unit) W) -∗ Q ⟨⟩))
      ⊢ wp frame (wpE defs Variants.none (c.tc : Thread nD τ) none) Set.univ (turn a0 a1 a2 sIn sOut i) Q := by
  unfold turn
  rw [wp_bind]
  iintro ⟨⟨Hm, H1, Ho⟩, HO, Hk⟩
  iapply (finish c (block a0 i) (block a2 i) (sIn i) _ _ _ W)
  isplitl [Hm]; · iexact Hm
  isplitl [HO]; · iexact HO
  iintro ⟨H2, H0, Hi, HO⟩
  iapply (start c (block a2 i) (block a1 i) (sOut i) blk_pos _ _ _ _ _ Q)
  isplitl [H2]; · iexact H2
  isplitl [H1]; · iexact H1
  isplitl [Ho]; · iexact Ho
  iintro Hm
  iapply Hk
  isplitl [Hm H0 Hi]
  · isplitl [Hm]; · iexact Hm
    isplitl [H0] <;> iassumption
  iexact HO

/-- The third stage, one block. -/
theorem drain_runs (i : Fin 16) (W : Waits sig Unit) (Q : PUnit → sProp 𝕄) :
    iprop(going c a0 a1 a2 sIn sOut X i ∗ owes (c.tc : Thread nD τ) (0 : CellTallies nD τ sig Unit) W
        ∗ (iprop(atRest c a0 a1 a2 sIn sOut X X X i ∗ ∃ W, owes (c.tc : Thread nD τ) (0 : CellTallies nD τ sig Unit) W) -∗ Q ⟨⟩))
      ⊢ wp frame (wpE defs Variants.none (c.tc : Thread nD τ) none) Set.univ (drain a1 a2 sOut i) Q := by
  unfold drain
  iintro ⟨⟨Hm, H0, Hi⟩, HO, Hk⟩
  iapply (finish c (block a2 i) (block a1 i) (sOut i) _ _ _ W)
  isplitl [Hm]; · iexact Hm
  isplitl [HO]; · iexact HO
  iintro ⟨H1, H2, Ho, HO⟩
  iapply Hk
  isplitl [H0 H1 H2 Hi Ho]
  · isplitl [H0]; · iexact H0
    isplitl [H1]; · iexact H1
    isplitl [H2]; · iexact H2
    isplitl [Hi] <;> iassumption
  iexact HO

/-- The three stages over any list of blocks. -/
theorem stages_run (l : List (Fin 16)) (W : Waits sig Unit) (Q : PUnit → sProp 𝕄) :
    iprop(bigSepL l (atRest c a0 a1 a2 sIn sOut X Y Z) ∗ owes (c.tc : Thread nD τ) (0 : CellTallies nD τ sig Unit) W
        ∗ (iprop(bigSepL l (atRest c a0 a1 a2 sIn sOut X X X) ∗ ∃ W, owes (c.tc : Thread nD τ) (0 : CellTallies nD τ sig Unit) W) -∗ Q ⟨⟩))
      ⊢ wp frame (wpE defs Variants.none (c.tc : Thread nD τ) none) Set.univ
          (run (fetch a0 a2 sIn) (run (turn a0 a1 a2 sIn sOut) (run (drain a1 a2 sOut) (pure ⟨⟩) l) l) l) Q := by
  iintro ⟨H, HO, Hk⟩
  iapply (each c (fetch a0 a2 sIn) _ _ _ (fun i W Q => fetch_runs c a0 a1 a2 sIn sOut X Y Z i W Q) Q l W)
  isplitl [H]; · iexact H
  isplitl [HO]; · iexact HO
  iintro ⟨H, %W1, HO⟩
  iapply (each c (turn a0 a1 a2 sIn sOut) _ _ _ (fun i W Q => turn_runs c a0 a1 a2 sIn sOut X Y i W Q) Q l W1)
  isplitl [H]; · iexact H
  isplitl [HO]; · iexact HO
  iintro ⟨H, %W2, HO⟩
  iapply (each c (drain a1 a2 sOut) _ _ _ (fun i W Q => drain_runs c a0 a1 a2 sIn sOut X i W Q) Q l W2)
  isplitl [H]; · iexact H
  isplitl [HO]; · iexact HO
  iintro ⟨H, HO⟩
  rw [show (pure PUnit.unit : Prog (TpuEff nD τ sig Val Λ .tc) PUnit) = Prog.ret ⟨⟩ from rfl, wp_ret]
  imodintro
  iapply Hk
  isplitl [H] <;> iassumption

/-- A semaphore array at zero. -/
abbrev zeros (s : Fin 16 → DmaSem sig) : sProp 𝕄 := bigSep Finset.univ fun i => zero c (s i)

/-- Three tables held whole and both semaphore arrays at zero, block by block. -/
theorem atRest_eq : (bigSepL blocks (atRest c a0 a1 a2 sIn sOut X Y Z) : sProp 𝕄)
    = iprop(bigSep Finset.univ (part c a0 X) ∗ bigSep Finset.univ (part c a1 Y) ∗ bigSep Finset.univ (part c a2 Z)
        ∗ zeros c sIn ∗ zeros c sOut) := by
  rw [← bigSep_univ_eq_bigSepL blocks (by decide) (by decide), bigSep_sep', bigSep_sep', bigSep_sep', bigSep_sep']

/-- THE BODY: from the source holding `X` and every semaphore at zero, it leaves source, result and working table all
    holding `X`, and every semaphore at zero. -/
theorem copyAll_runs [∀ e, Nonempty (Val e)] (W : Waits sig Unit) (Q : PUnit → sProp 𝕄) :
    iprop(owns (c.tc : Thread nD τ) a0 fullShare X ∗ owns (c.tc : Thread nD τ) a1 fullShare Y ∗ owns (c.tc : Thread nD τ) a2 fullShare Z
        ∗ zeros c sIn ∗ zeros c sOut ∗ owes (c.tc : Thread nD τ) (0 : CellTallies nD τ sig Unit) W
        ∗ (iprop(owns (c.tc : Thread nD τ) a0 fullShare X ∗ owns (c.tc : Thread nD τ) a1 fullShare X ∗ owns (c.tc : Thread nD τ) a2 fullShare X
            ∗ zeros c sIn ∗ zeros c sOut ∗ ∃ W, owes (c.tc : Thread nD τ) (0 : CellTallies nD τ sig Unit) W) -∗ Q ⟨⟩))
      ⊢ wp frame (wpE defs Variants.none (c.tc : Thread nD τ) none) Set.univ (copyAll a0 a1 a2 sIn sOut) Q := by
  unfold copyAll
  iintro ⟨H0, H1, H2, Hi, Ho, HO, Hk⟩
  ihave H0 := (owns_rects (c.tc : Thread nD τ) a0 fullShare rows (fun _ _ => rfl) rows_disjoint rows_cover X) $$ H0
  ihave H1 := (owns_rects (c.tc : Thread nD τ) a1 fullShare rows (fun _ _ => rfl) rows_disjoint rows_cover Y) $$ H1
  ihave H2 := (owns_rects (c.tc : Thread nD τ) a2 fullShare rows (fun _ _ => rfl) rows_disjoint rows_cover Z) $$ H2
  iapply (stages_run c a0 a1 a2 sIn sOut X Y Z blocks W Q)
  rw [atRest_eq, atRest_eq]
  isplitl [H0 H1 H2 Hi Ho]
  · isplitl [H0]; · iexact H0
    isplitl [H1]; · iexact H1
    isplitl [H2]; · iexact H2
    isplitl [Hi] <;> iassumption
  isplitl [HO]; · iexact HO
  iintro ⟨⟨H0, H1, H2, Hi, Ho⟩, HO⟩
  iapply Hk
  isplitl [H0]
  · iapply (owns_of_rects (c.tc : Thread nD τ) a0 fullShare rows (fun _ _ => rfl) rows_disjoint rows_cover X); iexact H0
  isplitl [H1]
  · iapply (owns_of_rects (c.tc : Thread nD τ) a1 fullShare rows (fun _ _ => rfl) rows_disjoint rows_cover X); iexact H1
  isplitl [H2]
  · iapply (owns_of_rects (c.tc : Thread nD τ) a2 fullShare rows (fun _ _ => rfl) rows_disjoint rows_cover X); iexact H2
  isplitl [Hi]; · iexact Hi
  isplitl [Ho] <;> iassumption

end Runs

end Cert.Proof.Copy

end
-- ==== Proof.IdealBody.lean ====
/-
  The kernel's body is the copy by blocks of `Chunks.copyAll`: the same transfers and waits in the same order, block `i`
  on semaphore `i` of each of its two arrays of sixteen (`body_eq`).
-/
module

public import proofs.«01_k».proof.Proof.Chunks
public import proofs.«01_k».proof.Proof.Gen.KernelIdeal.Skeleton

@[expose] public section

noncomputable section

namespace Cert.Proof.IdealRun

open Idealize.ShloMosaic Idealize.SL.Sem
open Cert.KernelIdeal Cert.KernelIdeal.Gen
open Cert.Proof.Copy

variable {F : FTy → Type} [FloatOps F]

/-- Semaphore `i` lies in an array of sixteen. -/
theorem cell_inb (i : Fin 16) : ∀ a, (![i.val] : Fin 1 → Nat) a + S1.size a ≤ S16.size a := by
  intro a; have := i.isLt; fin_cases a; show i.val + 1 ≤ 16; omega

/-- Semaphore `i` of an array of sixteen. -/
abbrev cell (A : DmaSems sig S16) (i : Fin 16) : DmaSem sig :=
  ((A.slice (Rect.unit (s := S16) ![i.val] S1.size (cell_inb i))).squeeze S_ Facts₀.squeezes_S1_S_).sem

set_option maxRecDepth 65536 in
set_option maxHeartbeats 1000000 in
/-- THE BODY, spelled as the copy by blocks from the table `a0` through the scratch `a2` into the result `a1`. -/
theorem body_eq (a0 : Memref sig .tc .hbm S8192x1024 .f32) (h0 : a0.IsWhole) (a1 : Memref sig .tc .hbm S8192x1024 .f32) (h1 : a1.IsWhole)
    (a2 : Memref sig .tc .vmem S8192x1024 .f32) (h2 : a2.IsWhole) (s1 s2 : DmaSems sig S16) :
    cc0__dma_body (F := F) a0 h0 a1 h1 a2 h2 s1 s2 = copyAll a0 a1 a2 (cell s1) (cell s2) := rfl

end Cert.Proof.IdealRun

end
-- ==== Proof.IdealRun.lean ====
/-
  The launch: every execution of the kernel (its real-number program) ends with the result equal to the table.

  The program is one region that stages nothing: the table and the result stay where they are, and the body moves the
  table through the scratch into the result by its own transfers. At the region's entry the launch hands over the three
  arrays, the scratch and the thirty-two semaphores at zero (`between` at the start); the body copies
  (`Chunks.copyAll_runs`); at the exit they come back with the result equal to the table and every semaphore at zero
  (`between` at the end). `run_main` states what this gives.
-/
module

public import proofs.«01_k».proof.Proof.IdealBody
public import proofs.«01_k».proof.Proof.Gen.KernelIdeal.Frame
public import Idealize.ShloMosaic.Lib.Pipeline.Regions

@[expose] public section

noncomputable section

namespace Cert.Proof.IdealRun

open Cert.KernelIdeal Cert.KernelIdeal.Gen
open Cert.Proof.Copy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU sig nD τ) ℕ

/-- The left component of the ghost algebra is the launch's. -/
abbrev EP : Emb (UR sig nD τ) (MT nD τ sig Unit (Elt F) ℕ (UU sig nD τ) ℕ) := embL

variable (m : (ℓ : Loc nD τ sig) → Buf (Elt F) ℓ) (ρ : Dev nD → PrngReg)

/-- The table on core `c`, as launched. -/
abbrev table (c : Dev nD) : Tab.Idx → Elt F .f32 := m ((c : Thread nD τ).loc main_arg1)

/-- The result's array: as launched before the body has run, the table afterwards. -/
def result (c : Dev nD) (k : Nat) : Tab.Idx → Elt F .f32 := if k = 0 then m ((c : Thread nD τ).loc main_v0) else table m c

/-- What the region holds before (`k = 0`) and after the body: the table, the result, the semaphores at zero, the
    scratch at something. -/
def between (c : Dev nD) (k : Nat) : sProp 𝕄 :=
  iprop(((c : Thread nD τ).loc main_arg1 ↦{fullShare} table m c) ∗ ((c : Thread nD τ).loc main_v0 ↦{fullShare} result m c k)
    ∗ (zeros c (cell cc0_scratch1) ∗ zeros c (cell cc0_scratch2))
    ∗ Pipeline.scopedRest (Ix := Unit) (Name := ℕ) (U := UU sig nD τ) (Lvl := ℕ) (Val := Elt F) (cfg0.spec) c)

/-- Every element type has a value. -/
instance (e : EltTy) : Nonempty (Elt F e) := inferInstance

/-- The body on the launched buffers: from the table at `X`, the result and the scratch at anything and the semaphores
    at zero, it ends with all three at `X` and the semaphores at zero again. -/
theorem body_runs (c : Dev nD) (X Y Z : Tab.Idx → Elt F .f32) (W : Waits sig Unit) (Q : PUnit → sProp 𝕄) :
    iprop(((c : Thread nD τ).loc main_arg1 ↦{fullShare} X) ∗ ((c : Thread nD τ).loc main_v0 ↦{fullShare} Y)
      ∗ ((c : Thread nD τ).loc cc0_scratch0 ↦{fullShare} Z) ∗ zeros c (cell cc0_scratch1) ∗ zeros c (cell cc0_scratch2)
      ∗ owes (c : Thread nD τ) (0 : CellTallies nD τ sig Unit) W
      ∗ ((((c : Thread nD τ).loc main_arg1 ↦{fullShare} X) ∗ ((c : Thread nD τ).loc main_v0 ↦{fullShare} X)
          ∗ ((c : Thread nD τ).loc cc0_scratch0 ↦{fullShare} X) ∗ zeros c (cell cc0_scratch1) ∗ zeros c (cell cc0_scratch2)
          ∗ ∃ W', owes (c : Thread nD τ) (0 : CellTallies nD τ sig Unit) W') -∗ Q ⟨⟩))
    ⊢ wp frame (wpE (defs₀ (F := F)) Variants.none (c : Thread nD τ) none) Set.univ
        (cc0__dma_body (F := F) (Memref.whole main_arg1) (Memref.isWhole_whole main_arg1) (Memref.whole main_v0) (Memref.isWhole_whole main_v0)
          (Memref.whole cc0_scratch0) (Memref.isWhole_whole cc0_scratch0) cc0_scratch1 cc0_scratch2) Q := by
  rw [body_eq]
  have h := copyAll_runs (defs := defs₀ (F := F)) c (Memref.whole main_arg1) (Memref.whole main_v0) (Memref.whole cc0_scratch0)
    (cell cc0_scratch1) (cell cc0_scratch2) X Y Z W Q
  simpa only [owns_whole] using h

/-- The region's proof data: no array is staged; `between` holds around the body; nothing is owed. -/
def dats (_ : Fin 1) (c : Dev nD) : Dat τ (Elt F) Unit ℕ (UU sig nD τ) ℕ cfg0 c where
  A w := V m c (Pipeline.arrRef (cfg0.spec) w)
  after w _ := w.elim0
  Φ t := between m c t.val
  q _ := fullShare
  owed _ := 0

/-- The staged arrays (there are none) start as the region finds them. -/
theorem A_eq (c : Dev nD) (w : Fin cfg0.W) : (dats m 0 c).A w = V m c (Pipeline.arrRef (cfg0.spec) w) := rfl

/-- No loop needs a variant. -/
abbrev 𝒱₀ : Variants := Variants.none

/-- The body takes the region from `between … 0` to `between … 1`. -/
theorem body_obligation (c : Dev nD) : BodyObligation (dats m 0 c) (defs₀ (F := F)) 𝒱₀ () Set.univ := fun t => by
  obtain rfl := fin_N0 t
  rw [show (dats m 0 c).Φ t0_0.castSucc = between m c 0 from rfl, show (dats m 0 c).Φ t0_0.succ = between m c 1 from rfl]
  unfold between Dat.owesAt Pipeline.owesWithin; rw [scopedRest0_eq]
  rw [show (dats m 0 c).owed t0_0.castSucc = 0 from rfl, show (dats m 0 c).owed t0_0.succ = 0 from rfl,
    show (Finset.univ : Finset (Fin cfg0.W)) = ∅ from rfl, BI.bigSep_empty, BI.bigSep_empty]
  iintro ⟨⟨H1, H0, ⟨Hi, Ho⟩, ⟨%fs, Hs⟩⟩, ⟨%W, %hW, HO⟩, HE⟩
  iapply (body_runs c (table m c) (result m c 0) fs W _)
  isplitl [H1]; · iexact H1
  isplitl [H0]; · iexact H0
  isplitl [Hs]; · iexact Hs
  isplitl [Hi]; · iexact Hi
  isplitl [Ho]; · iexact Ho
  isplitl [HO]; · iexact HO
  iintro ⟨H1, H0, Hs, Hi, Ho, ⟨%W', HO⟩⟩
  isplitl [H1 H0 Hi Ho Hs]
  · isplitl [H1]; · iexact H1
    isplitl [H0]; · iexact H0
    isplitl [Hi Ho]
    · isplitl [Hi]; · iexact Hi
      iexact Ho
    iexists _; iexact Hs
  isplitl [HO]
  · iexists W'; isplitr; · ipureintro; exact fun _ _ => Or.inl trivial
    iexact HO
  iexact HE

/-! ## The launch -/

/-- The kernel's own thirty-two semaphores: sixteen for the table's blocks, sixteen for the result's. -/
abbrev osem : Fin 16 ⊕ Fin 16 → SemLoc sig := Sum.elim (fun i => .dma (cell cc0_scratch1 i)) (fun i => .dma (cell cc0_scratch2 i))

/-- They are scoped, distinct, and none is a staging semaphore. -/
theorem ownSemFacts : Pipeline.OwnSemFacts (cfg0.spec) osem := by decide

omit [FloatOps F] in
/-- All of them at zero: the two families at zero. -/
theorem ownSems0_eq (c : Dev nD) :
    (Pipeline.ownSems0 (Ix := Unit) (Name := ℕ) (U := UU sig nD τ) (Lvl := ℕ) (Val := Elt F) (τ := τ) osem c : sProp 𝕄)
      = iprop(zeros c (cell cc0_scratch1) ∗ zeros c (cell cc0_scratch2)) :=
  BI.bigSep_univ_sum _

/-- The launch's ghost element. -/
def u₀ : UU sig nD τ := (initOf (Pipeline.cells cfgs cellOf_inj) (Pipeline.launchToks cfgs cellOf_inj), 1)

/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm

/-- Core `c` owes nothing. -/
abbrev R (c : Dev nD) : sProp 𝕄 := iprop(∃ W, owes (c : Thread nD τ) (0 : CellTallies nD τ sig Unit) W)

/-- What is held at the end: both arguments as launched, the result at the table. -/
abbrev atEnd (c : Dev nD) : sProp 𝕄 :=
  iprop(((c : Thread nD τ).loc main_arg0 ↦{fullShare} m ((c : Thread nD τ).loc main_arg0))
    ∗ ((c : Thread nD τ).loc main_arg1 ↦{fullShare} table m c) ∗ ((c : Thread nD τ).loc main_v0 ↦{fullShare} table m c))

-- the launch's statements meet the program's configuration only up to unfolding in types
set_option backward.isDefEq.respectTransparency.types false in
/-- The region: the table, the result and the semaphores go in, and come back with the result at the table; the first
    argument stays outside. -/
def reg0 : Pipeline.RegionSeg (pcfgs (F := F)) adm (dats m) () defs₀ 𝒱₀ L lv 0 where
  win := launch0.win.to₀
  block_pos := launch0.block_pos
  stage_whole := launch0.stage_whole
  K := Fin 16 ⊕ Fin 16
  osem := osem
  ho := ownSemFacts
  hbody c := (body_obligation m c).loose
  hwaits := Pipeline.hwaits_of_owed_zero _ _ _ _ L lv 0 fun _ _ => rfl
  pre c := iprop(unscopedBufs c (V m c) ∗ R c)
  post c := iprop(atEnd m c ∗ R c)
  X c := iprop(((c : Thread nD τ).loc main_arg1 ↦{fullShare} table m c) ∗ ((c : Thread nD τ).loc main_v0 ↦{fullShare} result m c 0)
    ∗ (zeros c (cell cc0_scratch1) ∗ zeros c (cell cc0_scratch2)))
  Y c := iprop(((c : Thread nD τ).loc main_arg1 ↦{fullShare} table m c) ∗ ((c : Thread nD τ).loc main_v0 ↦{fullShare} table m c))
  Z c := (c : Thread nD τ).loc main_arg0 ↦{fullShare} m ((c : Thread nD τ).loc main_arg0)
  hentry c := by
    rw [ownSems0_eq]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    iintro ⟨⟨Hub, HO⟩, Hos, -⟩
    ihave H := hsplit $$ Hub
    icases H with ⟨Ha, H0, H1, H2⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H1 H2 Hos]
    · isplitl [H1]; · iexact H1
      isplitl [H2]; · iexact H2
      iexact Hos
    iexact H0
  hin c := by
    rw [show (dats m 0 c).Φ 0 = between m c 0 from rfl]; unfold between
    iintro ⟨⟨H1, H2, Hos⟩, -, Hr⟩
    isplitl [H1]; · iexact H1
    isplitl [H2]; · iexact H2
    isplitl [Hos] <;> iassumption
  hout c := by
    rw [ownSems0_eq, show (dats m 0 c).Φ (Fin.last cfg0.N) = between m c 1 from rfl]; unfold between
    iintro ⟨H1, H2, Hos, Hr⟩
    isplitl [H1 H2]
    · isplitl [H1]; · iexact H1
      iexact H2
    isplitl [Hos] <;> iassumption
  hexit c := by
    iintro ⟨-, HO, ⟨H1, H2⟩, H0⟩
    imodintro
    isplitr [HO]
    · isplitl [H0]; · iexact H0
      isplitl [H1] <;> iassumption
    · unfold Pipeline.Dat.owesAt Pipeline.owesWithin
      icases HO with ⟨%W, -, HO⟩; iexists W; iexact HO

/-- The program: the region alone. -/
abbrev segs : List (Pipeline.Seg (pcfgs (F := F)) adm (dats m) () defs₀ 𝒱₀ L lv) := [.region (reg0 m)]

set_option backward.isDefEq.respectTransparency.types false in
set_option maxRecDepth 16384 in
/-- THE KERNEL: from any memory with every semaphore at zero, every execution ends with the result equal to the table,
    both arguments as they were, and every semaphore at zero. -/
theorem run_main : θ_run defs (onTc (τ := τ) (main (F := F))) ⟨m, fun _ => 0, ρ⟩ fun r =>
    (∀ c : Dev nD, r.2.mem ((c.tc : Thread nD τ).loc main_v0) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  Pipeline.θ_run_regions_kit_sems (pcfgs (F := F)) adm (dats m) () cellOf_inj EP defs₀ 𝒱₀ L lv m ρ main (segs m)
    (fun c Q => by rw [main_segs adm (dats m) () 𝒱₀ L lv (reg0 m) c])
    (by simp only [Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c)) (Tₙ := atEnd m)
    (hch := ⟨fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => s.mem ((c : Thread nD τ).loc main_v0) = m ((c : Thread nD τ).loc main_arg1)
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [atEnd]
      iintro ⟨⟨H0, H1, H2⟩, HSI⟩
      icombine HSI H0 gives %h0
      icombine HSI H1 gives %h1
      icombine HSI H2 gives %h2
      imodintro
      isplitr
      · ipureintro
        exact ⟨Buf.eq_of_forall_mem_univ h2, Buf.eq_of_forall_mem_univ h0, Buf.eq_of_forall_mem_univ h1⟩
      iexact HSI)
    (hQ := fun _ h hz => ⟨h, funext fun g => hz g (.inr (by revert g; decide))⟩)

end Cert.Proof.IdealRun

end
-- ==== Proof.KernelRun.lean ====
/-
  The kernel as it runs and its real-number program are the same text, over the float operations of either: what
  `IdealRun.run_main` says of the one it says of the other.
-/
module

public import proofs.«01_k».proof.Proof.IdealRun
public import proofs.«01_k».proof.Proof.Gen.Kernel.Skeleton

@[expose] public section

noncomputable section

namespace Cert.Proof.KernelRun

open Cert.Kernel Cert.Kernel.Gen
open Idealize.ShloMosaic Idealize.ShloMosaic.TcCoe Idealize.SL.Sem

variable {F : FTy → Type} [FloatOps F]

set_option maxRecDepth 65536 in
set_option maxHeartbeats 1000000 in
/-- THE KERNEL AS IT RUNS: from any memory with every semaphore at zero, every execution ends with the result equal to
    the table, both arguments as they were, and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
    (∀ c : Dev nD, r.2.mem ((c.tc : Thread nD τ).loc main_v0) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  Cert.Proof.IdealRun.run_main (F := F) m ρ

end Cert.Proof.KernelRun

end
-- ==== Proof.Reference.lean ====
/-
  What the reference computes: the table itself.

  The reference looks rows up by position. Its positions are 0, 1, …, 8191: none is negative, so none is moved up by
  8192; each lies in 0 … 8191, so no row is masked; and the lookup of row `i` at position `i` is row `i`. Hence its
  result is its second argument (`lookup_eq`), on every execution (`ref_run`).
-/
module

public import proofs.«01_k».proof.Proof.Gen.ReferenceIdeal.Run
public import Idealize.ShloMosaic.Lib.ReduceAll
public import Idealize.ShloMosaic.Lib.ValueIdxCore
public import Idealize.ShloMosaic.Lib.Routing.Ops

@[expose] public section

noncomputable section

namespace Cert.Proof.Lookup

open Idealize.ShloMosaic Idealize.ShloMosaic.TcCoe Idealize.SL.Sem
open Idealize.ShloMosaic.ValueIdx
open Cert.ReferenceIdeal Cert.ReferenceIdeal.Gen

variable {F : FTy → Type} [FloatOps F]

/-- A number below 8192, as a signed 32-bit word, is itself. -/
theorem word_toInt (k : Nat) (hk : k < 8192) : (BitVec.ofNat 32 k).toInt = (k : Int) := by
  rw [BitVec.toInt_eq_toNat_cond, BitVec.toNat_ofNat, Nat.mod_eq_of_lt (by omega), if_pos (by omega)]

/-- Such a word is not negative, -/
theorem word_slt (k : Nat) (hk : k < 8192) : IntOp.cmpi .slt (BitVec.ofNat 32 k) 0#32 = 0#1 := by
  show BitVec.ofBool ((BitVec.ofNat 32 k).slt 0#32) = 0#1
  rw [show (BitVec.ofNat 32 k).slt 0#32 = false from by
    rw [BitVec.slt_eq_decide, word_toInt k hk]; exact decide_eq_false (by simp)]
  rfl

/-- at least zero, -/
theorem word_sge (k : Nat) (hk : k < 8192) : IntOp.cmpi .sge (BitVec.ofNat 32 k) 0#32 = 1#1 := by
  show BitVec.ofBool ((0#32).sle (BitVec.ofNat 32 k)) = 1#1
  rw [show (0#32).sle (BitVec.ofNat 32 k) = true from by
    rw [BitVec.sle_eq_decide, word_toInt k hk]; exact decide_eq_true (by simp)]
  rfl

/-- and at most 8191. -/
theorem word_sle (k : Nat) (hk : k < 8192) : IntOp.cmpi .sle (BitVec.ofNat 32 k) 8191#32 = 1#1 := by
  show BitVec.ofBool ((BitVec.ofNat 32 k).sle 8191#32) = 1#1
  rw [show (BitVec.ofNat 32 k).sle 8191#32 = true from by
    rw [BitVec.sle_eq_decide, word_toInt k hk, show (8191#32).toInt = 8191 from by decide]; exact decide_eq_true (by omega)]
  rfl

/-- The row positions the reference looks up, one per row of the result. -/
abbrev positions : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32))) (iotaInDim S8192 32 0))

/-- Position `i` is `i`. -/
theorem positions_apply (j : S8192x1.Idx) : positions j = BitVec.ofNat 32 (j 0).val := by
  have hj : (j 0).val < 8192 := (j 0).isLt
  show Scalar.select (IntOp.cmpi .slt (BitVec.ofNat 32 (j 0).val) 0#32) _ (BitVec.ofNat 32 (j 0).val) = _
  rw [word_slt _ hj]
  rfl

/-- Which rows the reference keeps: those whose position lies in the table. -/
abbrev kept : IVec S8192 1 :=
  Host.reduce IntOp.andi
    (andi (cmpi .sge positions (broadcastInDim S8192x1 ![] bcast_S_S8192x1 (constantI S_ 32 0#32)))
      (cmpi .sle positions (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- Every row is kept. -/
theorem kept_apply (k : S8192.Idx) : kept k = 1#1 := by
  refine Host.reduce_andi_one _ _ _ _ k rfl fun i => ?_
  have hi : (i 0).val < 8192 := (i 0).isLt
  show IntOp.andi (IntOp.cmpi .sge (positions i) 0#32) (IntOp.cmpi .sle (positions i) 8191#32) = 1#1
  rw [positions_apply, word_sge _ hi, word_sle _ hi]
  rfl

/-- The lookup at those positions, the rows not kept replaced by `fill`: the table itself. -/
theorem lookup_eq (x fill : S8192x1024.Idx → Elt F .f32) :
    select (broadcastInDim S8192x1024 ![0] bcast_S8192_S8192x1024_0 kept)
      (Host.gather gather_S8192x1024_S8192x1_S8192x1024_1_0_n_n_0_1_11024 x positions) fill = x := by
  funext y
  refine (congrArg (fun k => Scalar.select k (Host.gather gather_S8192x1024_S8192x1_S8192x1024_1_0_n_n_0_1_11024 x positions y) (fill y)) (kept_apply _)).trans ?_
  refine (if_pos rfl).trans ?_
  obtain ⟨i, j, rfl⟩ : ∃ (i : Fin 8192) (j : Fin 1024), y = ix2 i j := ⟨y 0, y 1, eq_ix2 y⟩
  exact Routing.gather_row gather_S8192x1024_S8192x1_S8192x1024_1_0_n_n_0_1_11024 rfl rfl rfl rfl rfl x positions i j i
    (positions_apply _) (by omega)

/-- THE REFERENCE: every execution ends with its result equal to its second argument, and both arguments as they were. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (lookup_eq _ _), (h c).2⟩) (Cert.ReferenceIdeal.Value.run m ρ)

/-- The reference declares no semaphore. -/
theorem no_sem (s : GSem nD τ sig) : False := by
  obtain ⟨t, s⟩ := s
  cases s with
  | reg s => exact Fin.elim0 s
  | dma s => exact Fin.elim0 s

end Cert.Proof.Lookup

end
-- ==== Proof.lean ====
/-
  `Cert.Claim` (proofs.«01_k».proof.Defs), assembled.

  The kernel — as it runs (`KernelRun.run_main`) and over the reals (`IdealRun.run_main`) — ends with its result equal to
  its second argument, the table, both arguments as they were and every semaphore at zero. The reference
  (`Lookup.ref_run`) ends with its result equal to its second argument too. So the two results agree.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.IdealRun
public import proofs.«01_k».proof.Proof.KernelRun
public import proofs.«01_k».proof.Proof.Reference
public import Idealize.ShloMosaic.Adequacy
public import Idealize.ShloMosaic.Init

@[expose] public section

noncomputable section

namespace Cert.Proof

open Idealize.ShloMosaic Idealize.SL.Sem

/-- The kernel as it runs terminates, changes no argument and leaves every semaphore at zero. -/
theorem quiescent_kernel : quiescent_Kernel (hKernel := Cert.Kernel.Gen.facts) := fun m g _ =>
  (θ_run _ _ _).mono (fun _ h => ⟨fun c => (h.1 c).2, h.2⟩) (KernelRun.run_main (F := Bits) m g)

/-- So does its real-number program, -/
theorem quiescent_ideal : quiescent_KernelIdeal (hKernelIdeal := Cert.KernelIdeal.Gen.facts) := fun m g _ =>
  (θ_run _ _ _).mono (fun _ h => ⟨fun c => (h.1 c).2, h.2⟩) (IdealRun.run_main (F := Ideal) m g)

/-- and so does the reference, which has no semaphore. -/
theorem quiescent_reference : quiescent_ReferenceIdeal (hReferenceIdeal := Cert.ReferenceIdeal.Gen.facts) := fun m g _ =>
  (θ_run _ _ _).mono (fun _ h => ⟨fun c => (h c).2, funext fun s => (Lookup.no_sem s).elim⟩) (Lookup.ref_run (F := Ideal) m g)

/-- Kernel and reference, from the same arguments, end with the same result: the table. -/
theorem results_agree : algebraic_KernelIdeal_ReferenceIdeal (hKernelIdeal := Cert.KernelIdeal.Gen.facts)
    (hReferenceIdeal := Cert.ReferenceIdeal.Gen.facts) := fun m g m' g' _ hm =>
  ⟨fun c => m ((c.tc : Thread Cert.KernelIdeal.nD Cert.KernelIdeal.τ).loc Cert.KernelIdeal.main_arg1),
    (θ_run _ _ _).mono (fun _ h c => h.1 c) (IdealRun.run_main (F := Ideal) m g),
    (θ_run _ _ _).mono (fun _ h c => ⟨(h c).1.trans (hm c).2, (h c).2⟩) (Lookup.ref_run (F := Ideal) m' g')⟩

/-- Everything claimed. -/
theorem claim : Cert.Claim :=
  ⟨Cert.Kernel.Gen.facts, Cert.KernelIdeal.Gen.facts, Cert.ReferenceIdeal.Gen.facts,
    quiescent_kernel, quiescent_ideal, quiescent_reference, trivial, results_agree⟩

end Cert.Proof

end
